-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centre_hole [hPre_centre_hole : Cert.Pre_centre_hole.Facts] (m : (ℓ : Loc Cert.KernelIdeal.nD Cert.KernelIdeal.τ Cert.KernelIdeal.sig) → Buf (Elt Ideal) ℓ) : Prop :=
  ∀ c : Dev Cert.KernelIdeal.nD,
    (Cert.Pre_centre_hole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centre_hole [hPre_centre_hole : Cert.Pre_centre_hole.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centre_hole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_centre_hole [hKernelIdeal : Cert.KernelIdeal.Facts] [hPre_centre_hole : Cert.Pre_centre_hole.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centre_hole m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_centre_hole [hReferenceIdeal : Cert.ReferenceIdeal.Facts] [hPre_centre_hole : Cert.Pre_centre_hole.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centre_hole m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "mask" .f32 0xCE6E6B28#32 ⊥

def algebraic_KernelIdeal_ReferenceIdeal_pre_centre_hole [hKernelIdeal : Cert.KernelIdeal.Facts] [hReferenceIdeal : Cert.ReferenceIdeal.Facts] [hPre_centre_hole : Cert.Pre_centre_hole.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centre_hole m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_centre_hole : Cert.Pre_centre_hole.Facts),
    quiescent_Kernel (hKernel := hKernel)
    ∧ quiescent_KernelIdeal (hKernelIdeal := hKernelIdeal)
    ∧ quiescent_KernelIdeal_pre_centre_hole (hKernelIdeal := hKernelIdeal) (hPre_centre_hole := hPre_centre_hole)
    ∧ quiescent_ReferenceIdeal (hReferenceIdeal := hReferenceIdeal)
    ∧ quiescent_ReferenceIdeal_pre_centre_hole (hReferenceIdeal := hReferenceIdeal) (hPre_centre_hole := hPre_centre_hole)
    ∧ quiescent_Reference (hReference := hReference)
    ∧ preserves_Kernel_KernelIdeal
    ∧ preserves_Reference_ReferenceIdeal
    ∧ algebraic_KernelIdeal_ReferenceIdeal_pre_centre_hole (hKernelIdeal := hKernelIdeal) (hReferenceIdeal := hReferenceIdeal) (hPre_centre_hole := hPre_centre_hole)
-- ==== Pre_centre_hole.lean ====
abbrev S2x512x64x64 : Shape := ⟨4, ![2, 512, 64, 64]⟩
abbrev S64x64 : Shape := ⟨2, ![64, 64]⟩
abbrev S256x256 : Shape := ⟨2, ![256, 256]⟩
abbrev S256 : Shape := ⟨1, ![256]⟩
abbrev S4096 : Shape := ⟨1, ![4096]⟩
abbrev S_ : Shape := ⟨0, ![]⟩

class Facts : Prop where
  bcast_S_S64x64 : S_.BroadcastsInDim S64x64 (![] : Fin 0 → Fin S64x64.rank)
  shapeCasts_S4096_S64x64 : S4096.ShapeCasts S64x64
  natLt_1_32 : 1 < 32
  reducesTo_S64x64_S_d0_1 : S64x64.ReducesTo [0, 1] S_
  h_S_ : 0 < S_.numel
  bcast_S_S2x512x64x64 : S_.BroadcastsInDim S2x512x64x64 (![] : Fin 0 → Fin S2x512x64x64.rank)
  reducesTo_S2x512x64x64_S_d0_1_2_3 : S2x512x64x64.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_v31 : IVec S_ 1) (main_v34 : IVec S256 1) (main_c_10 : IVec S_ 1) : IVec S_ 1 :=
  let main_v35 : IVec S_ 1 := (fun x v => Host.reduce IntOp.andi x v reducesTo_S256_S_d0 h_S_) main_v34 main_c_10
  let main_v36 : IVec S_ 1 := andi main_v31 main_v35
  main_v36

def fn_part1 {F : FTy → Type} [FloatOps F] (main_arg2 : FVec F S256x256 .f32) (main_arg3 : FVec F S256x256 .f32) (main_arg4 : FVec F S256 .f32) (main_v16 : IVec S_ 1) (main_v17 : FVec F S2x512x64x64 .f32) (main_cst : FVec F S_ .f32) : IVec S_ 1 :=
  let main_v18 : FVec F S2x512x64x64 .f32 := broadcastInDim S2x512x64x64 ![] bcast_S_S2x512x64x64 main_cst
  let main_v19 : IVec S2x512x64x64 1 := cmpf .olt main_v17 main_v18
  let main_c_4 : IVec S_ 1 := constantI S_ 1 1#1
  let main_v20 : IVec S_ 1 := (fun x v => Host.reduce IntOp.andi x v reducesTo_S2x512x64x64_S_d0_1_2_3 h_S_) main_v19 main_c_4
  let main_v21 : IVec S_ 1 := andi main_v16 main_v20
  let main_v22 : FVec F S256x256 .f32 := Host.absf main_arg2
  let main_cst_5 : FVec F S_ .f32 := constant S_ .f32 0x7F800000#32
  let main_v23 : FVec F S256x256 .f32 := broadcastInDim S256x256 ![] bcast_S_S256x256 main_cst_5
  let main_v24 : IVec S256x256 1 := cmpf .olt main_v22 main_v23
  let main_c_6 : IVec S_ 1 := constantI S_ 1 1#1
  let main_v25 : IVec S_ 1 := (fun x v => Host.reduce IntOp.andi x v reducesTo_S256x256_S_d0_1 h_S_) main_v24 main_c_6
  let main_v26 : IVec S_ 1 := andi main_v21 main_v25
  let main_v27 : FVec F S256x256 .f32 := Host.absf main_arg3
  let main_cst_7 : FVec F S_ .f32 := constant S_ .f32 0x7F800000#32
  let main_v28 : FVec F S256x256 .f32 := broadcastInDim S256x256 ![] bcast_S_S256x256 main_cst_7
  let main_v29 : IVec S256x256 1 := cmpf .olt main_v27 main_v28
  let main_c_8 : IVec S_ 1 := constantI S_ 1 1#1
  let main_v30 : IVec S_ 1 := (fun x v => Host.reduce IntOp.andi x v reducesTo_S256x256_S_d0_1 h_S_) main_v29 main_c_8
  let main_v31 : IVec S_ 1 := andi main_v26 main_v30
  let main_v32 : FVec F S256 .f32 := Host.absf main_arg4
  let main_cst_9 : FVec F S_ .f32 := constant S_ .f32 0x7F800000#32
  let main_v33 : FVec F S256 .f32 := broadcastInDim S256 ![] bcast_S_S256 main_cst_9
  let main_v34 : IVec S256 1 := cmpf .olt main_v32 main_v33
  let main_c_10 : IVec S_ 1 := constantI S_ 1 1#1
  fn_part2 (F := F) main_v31 main_v34 main_c_10

def fn {F : FTy → Type} [FloatOps F] (main_arg0 : FVec F S2x512x64x64 .f32) (main_arg1 : FVec F S64x64 .f32) (main_arg2 : FVec F S256x256 .f32) (main_arg3 : FVec F S256x256 .f32) (main_arg4 : FVec F S256 .f32) (main_arg5 : IVec S4096 32) : IVec S_ 1 :=
  let main_v0 : IVec S64x64 32 := iotaInDim S64x64 32 0
  let main_v1 : IVec S64x64 32 := iotaInDim S64x64 32 1
  let main_c : IVec S_ 32 := constantI S_ 32 16#32
  let main_v2 : IVec S64x64 32 := broadcastInDim S64x64 ![] bcast_S_S64x64 main_c
  let main_v3 : IVec S64x64 1 := cmpi .sge main_v0 main_v2
  let main_c_0 : IVec S_ 32 := constantI S_ 32 48#32
  let main_v4 : IVec S64x64 32 := broadcastInDim S64x64 ![] bcast_S_S64x64 main_c_0
  let main_v5 : IVec S64x64 1 := cmpi .slt main_v0 main_v4
  let main_v6 : IVec S64x64 1 := andi main_v3 main_v5
  let main_c_1 : IVec S_ 32 := constantI S_ 32 16#32
  let main_v7 : IVec S64x64 32 := broadcastInDim S64x64 ![] bcast_S_S64x64 main_c_1
  let main_v8 : IVec S64x64 1 := cmpi .sge main_v1 main_v7
  let main_v9 : IVec S64x64 1 := andi main_v6 main_v8
  let main_c_2 : IVec S_ 32 := constantI S_ 32 48#32
  let main_v10 : IVec S64x64 32 := broadcastInDim S64x64 ![] bcast_S_S64x64 main_c_2
  let main_v11 : IVec S64x64 1 := cmpi .slt main_v1 main_v10
  let main_v12 : IVec S64x64 1 := andi main_v9 main_v11
  let main_v13 : IVec S64x64 32 := shapeCast S64x64 main_arg5 shapeCasts_S4096_S64x64
  let main_v14 : IVec S64x64 32 := (extui 32 · natLt_1_32) main_v12
  let main_v15 : IVec S64x64 1 := cmpi .eq main_v13 main_v14
  let main_c_3 : IVec S_ 1 := constantI S_ 1 1#1
  let main_v16 : IVec S_ 1 := (fun x v => Host.reduce IntOp.andi x v reducesTo_S64x64_S_d0_1 h_S_) main_v15 main_c_3
  let main_v17 : FVec F S2x512x64x64 .f32 := Host.absf main_arg0
  let main_cst : FVec F S_ .f32 := constant S_ .f32 0x7F800000#32
  fn_part1 (F := F) main_arg2 main_arg3 main_arg4 main_v16 main_v17 main_cst
-- ==== Kernel.lean ====
abbrev S2x512x64x64 : Shape := ⟨4, ![2, 512, 64, 64]⟩
abbrev S64x64 : Shape := ⟨2, ![64, 64]⟩
abbrev S256x256 : Shape := ⟨2, ![256, 256]⟩
abbrev S256 : Shape := ⟨1, ![256]⟩
abbrev S4096 : Shape := ⟨1, ![4096]⟩
abbrev S256x1 : Shape := ⟨2, ![256, 1]⟩
abbrev S2x256x64x64 : Shape := ⟨4, ![2, 256, 64, 64]⟩
abbrev S2x256x16x64 : Shape := ⟨4, ![2, 256, 16, 64]⟩
abbrev S2x256x1024 : Shape := ⟨3, ![2, 256, 1024]⟩
abbrev S2x256x32x16 : Shape := ⟨4, ![2, 256, 32, 16]⟩
abbrev S2x256x32x32 : Shape := ⟨4, ![2, 256, 32, 32]⟩
abbrev S2x256x3072 : Shape := ⟨3, ![2, 256, 3072]⟩
abbrev S_ : Shape := ⟨0, ![]⟩
abbrev S2x768x64x64 : Shape := ⟨4, ![2, 768, 64, 64]⟩
abbrev S1x256x3072 : Shape := ⟨3, ![1, 256, 3072]⟩
abbrev S1x256x1024 : Shape := ⟨3, ![1, 256, 1024]⟩
abbrev S256x3072 : Shape := ⟨2, ![256, 3072]⟩
abbrev S256x1024 : Shape := ⟨2, ![256, 1024]⟩
abbrev S1024x3072 : Shape := ⟨2, ![1024, 3072]⟩
abbrev S1024 : Shape := ⟨1, ![1024]⟩
abbrev S1024x1 : Shape := ⟨2, ![1024, 1]⟩
abbrev S1024x256 : Shape := ⟨2, ![1024, 256]⟩

abbrev nBuf : Space → Nat
  | .hbm => 25
  | .vmem => 9
  | .smem => 0
  | _ => 0

abbrev bufTy : (tb : Table) → Fin (tcTables nBuf tb) → BufTy
  | .hbm, ⟨0, _⟩ => ⟨S2x512x64x64, .f32⟩
  | .hbm, ⟨1, _⟩ => ⟨S64x64, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S4096, .i32⟩
  | .hbm, ⟨6, _⟩ => ⟨S256x1, .f32⟩
  | .hbm, ⟨7, _⟩ => ⟨S2x256x64x64, .f32⟩
  | .hbm, ⟨8, _⟩ => ⟨S2x256x16x64, .f32⟩
  | .hbm, ⟨9, _⟩ => ⟨S2x256x1024, .f32⟩
  | .hbm, ⟨10, _⟩ => ⟨S2x256x32x16, .f32⟩
  | .hbm, ⟨11, _⟩ => ⟨S2x256x32x16, .f32⟩
  | .hbm, ⟨12, _⟩ => ⟨S2x256x32x32, .f32⟩
  | .hbm, ⟨13, _⟩ => ⟨S2x256x1024, .f32⟩
  | .hbm, ⟨14, _⟩ => ⟨S2x256x16x64, .f32⟩
  | .hbm, ⟨15, _⟩ => ⟨S2x256x1024, .f32⟩
  | .hbm, ⟨16, _⟩ => ⟨S2x256x3072, .f32⟩
  | .hbm, ⟨17, _⟩ => ⟨S2x256x32x32, .f32⟩
  | .hbm, ⟨18, _⟩ => ⟨S2x256x1024, .f32⟩
  | .hbm, ⟨19, _⟩ => ⟨S2x256x1024, .f32⟩
  | .hbm, ⟨20, _⟩ => ⟨S2x256x32x32, .f32⟩
  | .hbm, ⟨21, _⟩ => ⟨S_, .i32⟩
  | .hbm, ⟨22, _⟩ => ⟨S_, .f32⟩
  | .hbm, ⟨23, _⟩ => ⟨S2x256x64x64, .f32⟩
  | .hbm, ⟨24, _⟩ => ⟨S2x768x64x64, .f32⟩
  | .local _ .vmem, ⟨0, _⟩ => ⟨S1x256x3072, .f32⟩
  | .local _ .vmem, ⟨1, _⟩ => ⟨S1x256x3072, .f32⟩
  | .local _ .vmem, ⟨2, _⟩ => ⟨S1x256x1024, .f32⟩
  | .local _ .vmem, ⟨3, _⟩ => ⟨S1x256x1024, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S1x256x1024, .f32⟩
  | .local _ .vmem, ⟨8, _⟩ => ⟨S1x256x1024, .f32⟩
  | _, _ => ⟨S2x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_c : Ref sig .tc := ⟨.hbm, 21, rfl⟩
abbrev main_call0_call0_v0 : Ref sig .tc := ⟨.hbm, 22, rfl⟩
abbrev main_call0_v15 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
variable {F : FTy → Type} [FloatOps F] [Named F]
def κ : String → Option EReal := fun
  | "mask" => some ⊥
  | _ => none
-- ==== Reference.lean ====
abbrev S2x512x64x64 : Shape := ⟨4, ![2, 512, 64, 64]⟩
abbrev S64x64 : Shape := ⟨2, ![64, 64]⟩
abbrev S256x256 : Shape := ⟨2, ![256, 256]⟩
abbrev S256 : Shape := ⟨1, ![256]⟩
abbrev S4096 : Shape := ⟨1, ![4096]⟩
abbrev S2x256x64x64 : Shape := ⟨4, ![2, 256, 64, 64]⟩
abbrev S1x4096 : Shape := ⟨2, ![1, 4096]⟩
abbrev S2x256x4096 : Shape := ⟨3, ![2, 256, 4096]⟩
abbrev S256x2x4096 : Shape := ⟨3, ![256, 2, 4096]⟩
abbrev S256x1 : Shape := ⟨2, ![256, 1]⟩
abbrev S1x256x1 : Shape := ⟨3, ![1, 256, 1]⟩
abbrev S2x4096x256 : Shape := ⟨3, ![2, 4096, 256]⟩
abbrev S2x4096x4096 : Shape := ⟨3, ![2, 4096, 4096]⟩
abbrev S1x1x4096 : Shape := ⟨3, ![1, 1, 4096]⟩
abbrev S_ : Shape := ⟨0, ![]⟩
abbrev S2x4096 : Shape := ⟨2, ![2, 4096]⟩
abbrev S2x4096x1 : Shape := ⟨3, ![2, 4096, 1]⟩
abbrev S2x768x64x64 : Shape := ⟨4, ![2, 768, 64, 64]⟩

abbrev nBuf : Space → Nat
  | .hbm => 48
  | .vmem => 2
  | .smem => 0
  | _ => 0

abbrev bufTy : (tb : Table) → Fin (tcTables nBuf tb) → BufTy
  | .hbm, ⟨0, _⟩ => ⟨S2x512x64x64, .f32⟩
  | .hbm, ⟨1, _⟩ => ⟨S64x64, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S4096, .i32⟩
  | .hbm, ⟨6, _⟩ => ⟨S2x256x64x64, .f32⟩
  | .hbm, ⟨7, _⟩ => ⟨S2x256x64x64, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S2x256x4096, .f32⟩
  | .hbm, ⟨12, _⟩ => ⟨S2x256x4096, .f32⟩
  | .hbm, ⟨13, _⟩ => ⟨S256x2x4096, .f32⟩
  | .hbm, ⟨14, _⟩ => ⟨S256x2x4096, .f32⟩
  | .hbm, ⟨15, _⟩ => ⟨S256x1, .f32⟩
  | .hbm, ⟨16, _⟩ => ⟨S2x256x4096, .f32⟩
  | .hbm, ⟨17, _⟩ => ⟨S1x256x1, .f32⟩
  | .hbm, ⟨18, _⟩ => ⟨S2x256x4096, .f32⟩
  | .hbm, ⟨19, _⟩ => ⟨S2x256x4096, .f32⟩
  | .hbm, ⟨20, _⟩ => ⟨S2x4096x256, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096, .f32⟩
  | .hbm, ⟨27, _⟩ => ⟨S_, .f32⟩
  | .hbm, ⟨28, _⟩ => ⟨S2x4096, .f32⟩
  | .hbm, ⟨29, _⟩ => ⟨S2x4096, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S2x4096x4096, .f32⟩
  | .hbm, ⟨38, _⟩ => ⟨S2x4096x4096, .f32⟩
  | .hbm, ⟨39, _⟩ => ⟨S2x4096x256, .f32⟩
  | .hbm, ⟨40, _⟩ => ⟨S2x4096x256, .f32⟩
  | .hbm, ⟨41, _⟩ => ⟨S2x256x4096, .f32⟩
  | .hbm, ⟨42, _⟩ => ⟨S1x4096, .f32⟩
  | .hbm, ⟨43, _⟩ => ⟨S1x1x4096, .f32⟩
  | .hbm, ⟨44, _⟩ => ⟨S2x256x4096, .f32⟩
  | .hbm, ⟨45, _⟩ => ⟨S2x256x4096, .f32⟩
  | .hbm, ⟨46, _⟩ => ⟨S2x256x64x64, .f32⟩
  | .hbm, ⟨47, _⟩ => ⟨S2x768x64x64, .f32⟩
  | .local _ .vmem, ⟨0, _⟩ => ⟨S1x4096, .f32⟩
  | .local _ .vmem, ⟨1, _⟩ => ⟨S1x4096, .f32⟩
  | _, _ => ⟨S2x512x64x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Softmax.lean ====
/-
  Two ways to weigh a row of values by the softmax of a row of scores, over the extended reals.

  One way looks only at the keys that are known: it takes the exponentials of the scores shifted by their largest, sums
  the values against them, and multiplies by one over the sum of the exponentials. The other way looks at every key,
  lowers the scores of the unknown keys to `⊥`, divides each exponential by their sum and then sums the values against
  the quotients. When the scores and the values of the known keys are real numbers the two agree: an unknown key's
  exponential is zero and drops out of the maximum and of both sums.
-/
module

public import Idealize.ShloMosaic.PureOps.Ideal

@[expose] public section

noncomputable section

namespace Cert.Softmax

open Idealize.ShloMosaic

/-- A sum of real numbers is the same taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern of minus infinity reads as `⊥`. -/
theorem ofBits_bot : Ideal.ofBits .f32 0xFF800000#32 = ⊥ := by
  simp [Ideal.ofBits, Ideal.ieee]

/-- The f32 pattern of plus infinity reads as `⊤`. -/
theorem ofBits_top : Ideal.ofBits .f32 0x7F800000#32 = ⊤ := by
  simp [Ideal.ofBits, Ideal.ieee]

/-- A real number divided by a real number that is not zero is their real quotient. -/
theorem div_coe (a b : ℝ) (hb : b ≠ 0) : Ideal.div (a : EReal) (b : EReal) = ((a / b : ℝ) : EReal) := by
  rw [Ideal.div, if_neg (by simpa using hb), ← EReal.coe_inv, ← EReal.coe_mul, div_eq_mul_inv]

section Row

variable {K P : Type} [Fintype K] [Fintype P] [DecidableEq P]

/-- The largest of a family of extended reals, `⊥` when there is none. -/
def largest (f : K → EReal) : EReal := Finset.univ.fold max ⊥ f

omit [DecidableEq P] in
/-- It is the supremum. -/
theorem largest_eq_sup (f : K → EReal) : largest f = Finset.univ.sup f := rfl

/-- The largest of a nonempty family of real numbers is a real number. -/
theorem largest_coe [Nonempty K] (f : K → ℝ) : ∃ μ : ℝ, largest (fun j => (f j : EReal)) = (μ : EReal) := by
  obtain ⟨j, -, hj⟩ := Finset.exists_mem_eq_sup Finset.univ Finset.univ_nonempty fun j => (f j : EReal)
  exact ⟨f j, hj⟩

/-- Positions outside the range of `κ` carry `⊥`: the largest of all positions is the largest over `κ`. -/
theorem largest_known (κ : K → P) (g : P → EReal) (hg : ∀ q, q ∉ Set.range κ → g q = ⊥) :
    largest g = largest fun j => g (κ j) := by
  rw [largest_eq_sup, largest_eq_sup]
  refine le_antisymm (Finset.sup_le fun q _ => ?_) (Finset.sup_le fun j _ => Finset.le_sup (f := g) (Finset.mem_univ _))
  by_cases h : q ∈ Set.range κ
  · obtain ⟨j, rfl⟩ := h
    exact Finset.le_sup (f := fun j => g (κ j)) (Finset.mem_univ j)
  · rw [hg q h]; exact bot_le

/-- Positions outside the range of `κ` carry zero: the sum over all positions is the sum over `κ`. -/
theorem sum_known (κ : K → P) (hκ : Function.Injective κ) (g : P → EReal) (hg : ∀ q, q ∉ Set.range κ → g q = 0) :
    ∑ q, g q = ∑ j, g (κ j) := by
  rw [← Finset.sum_image (s := Finset.univ) (g := κ) (f := g) fun a _ b _ h => hκ h]
  refine (Finset.sum_subset (Finset.subset_univ _) fun q _ hq => hg q fun ⟨j, hj⟩ => hq ?_).symm
  exact Finset.mem_image.2 ⟨j, Finset.mem_univ j, hj⟩

/-- The softmax-weighted value computed over the known keys alone: unscaled sum, then one over the sum of exponentials. -/
def overKnown (S F : K → EReal) : EReal :=
  (∑ j, Ideal.exp (S j - largest S) * F j) * Ideal.div 1 (∑ j, Ideal.exp (S j - largest S))

/-- The softmax-weighted value computed over every key, each weight a quotient. -/
def overAll (T F : P → EReal) : EReal :=
  ∑ q, Ideal.div (Ideal.exp (T q - max ⊥ (largest T))) (∑ q', Ideal.exp (T q' - max ⊥ (largest T))) * F q

/-- Over real scores and real values, masking the keys outside the range of `κ` with `⊥` and looking at every key gives
    what looking at the known keys alone gives. -/
theorem overKnown_eq_overAll [Nonempty K] (κ : K → P) (hκ : Function.Injective κ) (T F : P → EReal) (s f : K → ℝ)
    (hT : ∀ j, T (κ j) = (s j : EReal)) (hF : ∀ j, F (κ j) = (f j : EReal)) (hmask : ∀ q, q ∉ Set.range κ → T q = ⊥) :
    overKnown (fun j => T (κ j)) (fun j => F (κ j)) = overAll T F := by
  obtain ⟨μ, hμ⟩ := largest_coe s
  have hl : largest (fun j => T (κ j)) = (μ : EReal) := by simp only [hT, hμ]
  have hl' : max ⊥ (largest T) = (μ : EReal) := by rw [largest_known κ T hmask, hl]; exact max_eq_right bot_le
  have hexp : ∀ j, Ideal.exp (T (κ j) - (μ : EReal)) = ((Real.exp (s j - μ) : ℝ) : EReal) := fun j => by
    rw [hT, ← EReal.coe_sub, Ideal.exp_coe]
  have hexp0 : ∀ q, q ∉ Set.range κ → Ideal.exp (T q - (μ : EReal)) = 0 := fun q hq => by
    rw [hmask q hq, sub_eq_add_neg, EReal.bot_add, Ideal.exp_bot]
  have hz : (∑ j, Real.exp (s j - μ)) ≠ 0 := (Finset.sum_pos (fun j _ => Real.exp_pos _) Finset.univ_nonempty).ne'
  have hZ : ∑ q, Ideal.exp (T q - (μ : EReal)) = ((∑ j, Real.exp (s j - μ) : ℝ) : EReal) := by
    rw [sum_known κ hκ _ hexp0, coe_sum]; exact Finset.sum_congr rfl fun j _ => hexp j
  have hZ' : ∑ j, Ideal.exp (T (κ j) - (μ : EReal)) = ((∑ j, Real.exp (s j - μ) : ℝ) : EReal) := by
    rw [coe_sum]; exact Finset.sum_congr rfl fun j _ => hexp j
  unfold overKnown overAll
  rw [hl, hl', hZ, hZ', sum_known κ hκ]
  · simp only [hexp, hF, div_coe _ _ hz]
    rw [← EReal.coe_one, div_coe _ _ hz]
    simp only [← EReal.coe_mul]
    rw [← coe_sum, ← coe_sum, ← EReal.coe_mul, Finset.sum_mul]
    refine congrArg _ (Finset.sum_congr rfl fun j _ => ?_)
    ring
  · intro q hq
    rw [hexp0 q hq, ← EReal.coe_zero, div_coe _ _ hz, zero_div, EReal.coe_zero, zero_mul]

end Row

end Cert.Softmax

end
-- ==== Proof.Positions.lean ====
/-
  The pixels of a 64 by 64 image, the square hole of rows and columns 16 to 47 in it, and the order in which the known
  pixels are laid out as keys: the 16 rows above the hole, then for each of the 32 rows of the hole the 16 pixels at its
  left and the 16 at its right, then the 16 rows below.
-/
module

public import Mathlib.Data.Fintype.Basic
public import Mathlib.Data.Set.Function

@[expose] public section

noncomputable section

namespace Cert.Positions

/-- A pixel's row and column lie in the hole. -/
def InHole (r c : Nat) : Prop := 16 ≤ r ∧ r < 48 ∧ 16 ≤ c ∧ c < 48

instance (r c : Nat) : Decidable (InHole r c) := by unfold InHole; infer_instance

/-- The row of known key `j`. -/
def keyRow (j : Fin 3072) : Fin 64 :=
  ⟨if j.val < 1024 then j.val / 64 else if j.val - 1024 < 1024 then 16 + (j.val - 1024) / 32 else 48 + (j.val - 1024 - 1024) / 64,
    by split_ifs <;> omega⟩

/-- The column of known key `j`. -/
def keyCol (j : Fin 3072) : Fin 64 :=
  ⟨if j.val < 1024 then j.val % 64 else if j.val - 1024 < 1024 then
      (if (j.val - 1024) % 32 < 16 then (j.val - 1024) % 32 else 48 + ((j.val - 1024) % 32 - 16)) else (j.val - 1024 - 1024) % 64,
    by split_ifs <;> omega⟩

/-- The flat position of known key `j`. -/
def keyPos (j : Fin 3072) : Fin 4096 := ⟨64 * (keyRow j).val + (keyCol j).val, by omega⟩

/-- The row of a flat position. -/
def row (p : Fin 4096) : Fin 64 := ⟨p.val / 64, by omega⟩

/-- The column of a flat position. -/
def col (p : Fin 4096) : Fin 64 := ⟨p.val % 64, by omega⟩

/-- A known key's flat position is in its row. -/
theorem row_keyPos (j : Fin 3072) : row (keyPos j) = keyRow j := by
  apply Fin.ext; show (64 * (keyRow j).val + (keyCol j).val) / 64 = (keyRow j).val; omega

/-- A known key's flat position is in its column. -/
theorem col_keyPos (j : Fin 3072) : col (keyPos j) = keyCol j := by
  apply Fin.ext; show (64 * (keyRow j).val + (keyCol j).val) % 64 = (keyCol j).val; omega

/-- No pixel is laid out twice. -/
theorem keyPos_injective : Function.Injective keyPos := by
  intro a b h
  have h := congrArg Fin.val h
  simp only [keyPos, keyRow, keyCol] at h
  apply Fin.ext
  split_ifs at h <;> omega

/-- A known key is outside the hole. -/
theorem keyPos_known (j : Fin 3072) : ¬ InHole (keyRow j) (keyCol j) := by
  simp only [InHole, keyRow, keyCol]
  split_ifs <;> omega

/-- Every pixel outside the hole is laid out as a key. -/
theorem mem_range_keyPos (p : Fin 4096) (h : ¬ InHole (row p) (col p)) : p ∈ Set.range keyPos := by
  have key : ∀ n : Nat, (hn : n < 3072) → (keyPos ⟨n, hn⟩).val = p.val → p ∈ Set.range keyPos :=
    fun n hn e => ⟨⟨n, hn⟩, Fin.ext e⟩
  simp only [InHole, row, col] at h
  by_cases h0 : p.val < 1024
  · refine key p.val (by omega) ?_
    simp only [keyPos, keyRow, keyCol]; split_ifs <;> omega
  by_cases h1 : p.val < 3072
  · by_cases h2 : p.val % 64 < 16
    · refine key (1024 + (p.val / 64 - 16) * 32 + p.val % 64) (by omega) ?_
      simp only [keyPos, keyRow, keyCol]; split_ifs <;> omega
    · refine key (1024 + (p.val / 64 - 16) * 32 + (p.val % 64 - 32)) (by omega) ?_
      simp only [keyPos, keyRow, keyCol]; split_ifs <;> omega
  · refine key (p.val - 1024) (by omega) ?_
    simp only [keyPos, keyRow, keyCol]; split_ifs <;> omega

/-- Conversely a flat position in the hole is no key's. -/
theorem inHole_of_not_mem (p : Fin 4096) (h : p ∉ Set.range keyPos) : InHole (row p) (col p) := by
  by_contra hc; exact h (mem_range_keyPos p hc)

/-- The flat position of the pixel in row `r` and column `c`. -/
def flat (r c : Fin 64) : Fin 4096 := ⟨r.val * 64 + c.val, by omega⟩

/-- Its row is `r`. -/
theorem row_flat (r c : Fin 64) : row (flat r c) = r := by
  apply Fin.ext; show (r.val * 64 + c.val) / 64 = r.val; omega

/-- Its column is `c`. -/
theorem col_flat (r c : Fin 64) : col (flat r c) = c := by
  apply Fin.ext; show (r.val * 64 + c.val) % 64 = c.val; omega

/-- The row of query `i`: the queries run over the hole row by row. -/
def queryRow (i : Fin 1024) : Fin 64 := ⟨16 + i.val / 32, by omega⟩

/-- The column of query `i`. -/
def queryCol (i : Fin 1024) : Fin 64 := ⟨16 + i.val % 32, by omega⟩

end Cert.Positions

end
-- ==== Proof.Attention.lean ====
/-
  What each of the two programs computes, as plain formulas over the elements of the arguments: the image `x` of two
  samples with 512 channels (256 of the keys and values, 256 of the queries), the two weight matrices `U` and `V`, the
  scale vector `v`, and the flag word of each pixel.
-/
module

public import Idealize.ShloMosaic.Lib.Pointwise
public import proofs.«01_k».proof.Proof.Softmax
public import proofs.«01_k».proof.Proof.Positions

@[expose] public section

noncomputable section

namespace Cert.Attention

open Idealize.ShloMosaic Cert.Positions Cert.Softmax

abbrev Image : Shape := ⟨4, ![2, 512, 64, 64]⟩
abbrev Matrix : Shape := ⟨2, ![256, 256]⟩
abbrev Scale : Shape := ⟨1, ![256]⟩
abbrev Flags : Shape := ⟨1, ![4096]⟩
abbrev Result : Shape := ⟨4, ![2, 768, 64, 64]⟩

variable (x : Image.Idx → EReal) (U V : Matrix.Idx → EReal) (v : Scale.Idx → EReal) (flag : Flags.Idx → BitVec 32)

/-- Channel `k` of the first half of the image: keys and values. -/
def former (b : Fin 2) (k : Fin 256) (r c : Fin 64) : EReal := x (ix4 b ⟨k.val, by omega⟩ r c)

/-- Channel `k` of the second half of the image: queries. -/
def latter (b : Fin 2) (k : Fin 256) (r c : Fin 64) : EReal := x (ix4 b ⟨256 + k.val, by omega⟩ r c)

/-- The score of the key at pixel `(r', c')` for the query at pixel `(r, c)`. -/
def score (b : Fin 2) (r c r' c' : Fin 64) : EReal :=
  ∑ d : Fin 256, ((∑ k : Fin 256, U (ix2 d k) * latter x b k r c) * v (ix1 d)) * ∑ k : Fin 256, V (ix2 d k) * former x b k r' c'

/-- Channel `k` of what the query at pixel `(r, c)` gathers from the known pixels. -/
def gathered (b : Fin 2) (k : Fin 256) (r c : Fin 64) : EReal :=
  overKnown (fun j : Fin 3072 => score x U V v b r c (keyRow j) (keyCol j)) fun j => former x b k (keyRow j) (keyCol j)

/-- The mask of a flat position: `⊥` times its flag. -/
def masked (q : Fin 4096) : EReal := ⊥ * (((flag (ix1 q)).toInt : ℝ) : EReal)

/-- Channel `k` of what the query at pixel `(r, c)` gathers from every pixel, the flagged ones masked. -/
def gatheredMasked (b : Fin 2) (k : Fin 256) (r c : Fin 64) : EReal :=
  overAll (fun q : Fin 4096 => score x U V v b r c (row q) (col q) + masked flag q) fun q => former x b k (row q) (col q)

/-- The kernel's result: the image, and behind it in the hole what each pixel gathers, zero around the hole. -/
def kernelResult (b : Fin 2) (ch : Fin 768) (r c : Fin 64) : EReal :=
  if h : ch.val < 512 then x (ix4 b ⟨ch.val, h⟩ r c)
  else if InHole r c then gathered x U V v b ⟨ch.val - 512, by omega⟩ r c else 0

/-- The reference's result: the image, and behind it what each pixel gathers times the pixel's flag. -/
def referenceResult (b : Fin 2) (ch : Fin 768) (r c : Fin 64) : EReal :=
  if h : ch.val < 512 then x (ix4 b ⟨ch.val, h⟩ r c)
  else gatheredMasked x U V v flag b ⟨ch.val - 512, by omega⟩ r c * (((flag (ix1 (flat r c))).toInt : ℝ) : EReal)

end Cert.Attention

end
-- ==== Proof.KernelBlock.lean ====
/-
  One grid point of the kernel, at an index: from the block of known keys, the block of queries, the two matrices and the
  scale vector, what channel `k` of query `i` receives.
-/
module

public import proofs.«01_k».proof.Proof.Gen.KernelIdeal.Frame
public import proofs.«01_k».proof.Proof.Attention
public import Idealize.ShloMosaic.Lib.Pointwise
public import Idealize.ShloMosaic.Lib.StableHlo.ReadAt
public import Idealize.ShloMosaic.Lib.Pipeline.Value
public import Idealize.ShloMosaic.Lib.Pipeline.ValueKit

@[expose] public section

set_option maxRecDepth 16384

noncomputable section

namespace Cert.KernelBlock

open Idealize.ShloMosaic Cert.KernelIdeal Cert.KernelIdeal.Gen Cert.Softmax
attribute [local instance] Cert.KernelIdeal.Gen.facts

/-- The scores of a block: scaled query projections against key projections. -/
def scores (v0 : Vec Ideal S1x256x3072 .f32) (v2 : Vec Ideal S1x256x1024 .f32) (v4 v5 : Vec Ideal S256x256 .f32)
    (v6 : Vec Ideal S256x1 .f32) : FVec Ideal S1024x3072 .f32 :=
  matmul dot_S256x1024_S256x3072_S1024x3072_0_0_1_1_n_n none
    (mulf (F := Ideal) (φ := .f32)
      (matmul (F := Ideal) (φ₁ := .f32) (φ₂ := .f32) dot_S256x256_S256x1024_S256x1024_1_0_0_1_n_n none v4
        (shapeCast S256x1024 v2 shapeCasts_S1x256x1024_S256x1024) (constant S256x1024 .f32 0x00000000#32))
      (broadcastTo S256x1024 (shapeCast S256x1 v6 shapeCasts_S256x1_S256x1) broadcasts_S256x1_S256x1024))
    (matmul (F := Ideal) (φ₁ := .f32) (φ₂ := .f32) dot_S256x256_S256x3072_S256x3072_1_0_0_1_n_n none v5
      (shapeCast S256x3072 v0 shapeCasts_S1x256x3072_S256x3072) (constant S256x3072 .f32 0x00000000#32))
    (constant S1024x3072 .f32 0x00000000#32)

/-- The weighing of the block's values by a matrix of scores. -/
def weigh (s : FVec Ideal S1024x3072 .f32) (v0 : Vec Ideal S1x256x3072 .f32) : FVec Ideal S1x256x1024 .f32 :=
  have values : FVec Ideal S256x3072 .f32 := shapeCast S256x3072 v0 shapeCasts_S1x256x3072_S256x3072
  have most : FVec Ideal S1024 .f32 := multiReduction .maximumf [1] S1024 s 0xFF800000#32 reduces_S1024x3072_S1024 (.inl rfl) rfl
  have weights : FVec Ideal S1024x3072 .f32 :=
    exp (subf s (broadcastTo S1024x3072 (shapeCast S1024x1 most shapeCasts_S1024_S1024x1) broadcasts_S1024x1_S1024x3072))
  have total : FVec Ideal S1024 .f32 := multiReduction .add [1] S1024 weights 0x00000000#32 reduces_S1024x3072_S1024 (.inl rfl) rfl
  have raw : FVec Ideal S1024x256 .f32 :=
    matmul dot_S1024x3072_S256x3072_S1024x256_1_1_0_0_n_n none weights values (constant S1024x256 .f32 0x00000000#32)
  have out : FVec Ideal S1024x256 .f32 :=
    mulf raw (broadcastTo S1024x256 (divf (broadcast S1024x1 (Scalar.ofBits .f32 0x3F800000#32))
      (shapeCast S1024x1 total shapeCasts_S1024_S1024x1)) broadcasts_S1024x1_S1024x256)
  shapeCast S1x256x1024 (transpose S256x1024 [1, 0] out transposes_S1024x256_p1_0_S256x1024) shapeCasts_S256x1024_S1x256x1024

/-- What the body stores is the weighing by the scores. -/
theorem pay_eq (v0 : Vec Ideal S1x256x3072 .f32) (v2 : Vec Ideal S1x256x1024 .f32) (v4 v5 : Vec Ideal S256x256 .f32)
    (v6 : Vec Ideal S256x1 .f32) : k0_pay1 v0 v2 v4 v5 v6 = weigh (scores v0 v2 v4 v5 v6) v0 := rfl

/-- A score at an index. -/
theorem scores_apply (v0 : Vec Ideal S1x256x3072 .f32) (v2 : Vec Ideal S1x256x1024 .f32) (v4 v5 : Vec Ideal S256x256 .f32)
    (v6 : Vec Ideal S256x1 .f32) (i : Fin 1024) (j : Fin 3072) :
    scores v0 v2 v4 v5 v6 (ix2 i j : S1024x3072.Idx)
      = ∑ d : Fin 256, ((∑ k : Fin 256, v4 (ix2 d k) * v2 (ix3 0 k i)) * v6 (ix2 d 0))
          * ∑ k : Fin 256, v5 (ix2 d k) * v0 (ix3 0 k j) := by
  pointwise [scores]

/-- The weighing at an index. -/
theorem weigh_apply (s : FVec Ideal S1024x3072 .f32) (v0 : Vec Ideal S1x256x3072 .f32) (k : Fin 256) (i : Fin 1024) :
    weigh s v0 (ix3 0 k i : S1x256x1024.Idx)
      = overKnown (fun j : Fin 3072 => s (ix2 i j)) fun j => v0 (ix3 0 k j) := by
  unfold overKnown largest
  pointwise [weigh]
  rw [ofBits_bot]

/-- What the body stores, at an index. -/
theorem pay_apply (v0 : Vec Ideal S1x256x3072 .f32) (v2 : Vec Ideal S1x256x1024 .f32) (v4 v5 : Vec Ideal S256x256 .f32)
    (v6 : Vec Ideal S256x1 .f32) (k : Fin 256) (i : Fin 1024) :
    k0_pay1 v0 v2 v4 v5 v6 (ix3 0 k i : S1x256x1024.Idx)
      = overKnown (fun j : Fin 3072 => ∑ d : Fin 256, ((∑ k : Fin 256, v4 (ix2 d k) * v2 (ix3 0 k i)) * v6 (ix2 d 0))
          * ∑ k : Fin 256, v5 (ix2 d k) * v0 (ix3 0 k j)) fun j => v0 (ix3 0 k j) := by
  rw [pay_eq, weigh_apply]
  simp only [scores_apply]

end Cert.KernelBlock

end
-- ==== Proof.KernelOperands.lean ====
/-
  The kernel's operands as the grid finds them, at an index: the block of known keys and values, the queries, and the
  scale vector as a column, each read off the arguments.
-/
module

public import proofs.«01_k».proof.Proof.Gen.KernelIdeal.Frame
public import proofs.«01_k».proof.Proof.Attention
public import Idealize.ShloMosaic.Lib.Pointwise
public import Idealize.ShloMosaic.Lib.StableHlo.ReadAt
public import Idealize.ShloMosaic.Lib.Pipeline.Value
public import Idealize.ShloMosaic.Lib.Pipeline.ValueKit

@[expose] public section

set_option maxRecDepth 16384

noncomputable section

namespace Cert.KernelOperands

open Idealize.ShloMosaic Idealize.ShloMosaic.TcCoe Cert.KernelIdeal Cert.KernelIdeal.Gen Cert.Positions Cert.Attention
attribute [local instance] Cert.KernelIdeal.Gen.facts

variable (m : (ℓ : Loc nD τ sig) → Buf (Elt Ideal) ℓ)

/-- Three blocks of keys, one behind the other. -/
def joined (x y z : FVec Ideal S2x256x1024 .f32) : FVec Ideal S2x256x3072 .f32 :=
  concatenate S2x256x3072 2 [⟨S2x256x1024, x⟩, ⟨S2x256x1024, y⟩, ⟨S2x256x1024, z⟩]
    concatenates_S2x256x1024_S2x256x1024_S2x256x1024_S2x256x3072_d2

/-- The known keys: key `j` is the pixel in row `keyRow j` and column `keyCol j`. -/
theorem keys_apply (c : Dev nD) (b : Fin 2) (k : Fin 256) (j : Fin 3072) :
    V m c main_call0_v10 (ix3 b k j : S2x256x3072.Idx)
      = former (m ((c : Thread nD τ).loc main_arg0)) b k (keyRow j) (keyCol j) := by
  unfold V V0
  after_reads_simp
  change joined (StableHlo.upto [hostOps0].flatten (fun b => m (c, b)) 10 (Proc.tc.devRef main_call0_v3))
    (StableHlo.upto [hostOps0].flatten (fun b => m (c, b)) 10 (Proc.tc.devRef main_call0_v7))
    (StableHlo.upto [hostOps0].flatten (fun b => m (c, b)) 10 (Proc.tc.devRef main_call0_v9)) (ix3 b k j) = _
  after_reads_simp
  simp -implicitDefEqProofs only [StableHlo.TRef.toBuf, StableHlo.TRef.ofBuf, cast_cast, cast_eq]
  clean_types
  pointwise [joined]
  after_reads_at
  unfold former keyRow keyCol
  split_ifs <;> rfl

/-- The queries: query `i` is the pixel in row `queryRow i` and column `queryCol i`. -/
theorem queries_apply (c : Dev nD) (b : Fin 2) (k : Fin 256) (i : Fin 1024) :
    V m c main_call0_v12 (ix3 b k i : S2x256x1024.Idx)
      = latter (m ((c : Thread nD τ).loc main_arg0)) b k (queryRow i) (queryCol i) := by
  unfold V V0
  after_reads_at
  rfl

/-- The scale vector as a column. -/
theorem scale_apply (c : Dev nD) (k : Fin 256) :
    V m c main_call0_v0 (ix2 k 0 : S256x1.Idx) = m ((c : Thread nD τ).loc main_arg4) (ix1 k) := by
  unfold V V0
  after_reads_at

end Cert.KernelOperands

end
-- ==== Proof.KernelValue.lean ====
/-
  The kernel's result array at an index: what the grid leaves, then the operations behind it that place it in the hole of
  a zero image and join it to the input.
-/
module

public import proofs.«01_k».proof.Proof.KernelBlock
public import proofs.«01_k».proof.Proof.KernelOperands

@[expose] public section

set_option maxRecDepth 16384

noncomputable section

namespace Cert.KernelValue

open Idealize.ShloMosaic Idealize.ShloMosaic.TcCoe Idealize.SL.Sem Cert.KernelIdeal Cert.KernelIdeal.Gen Cert.Positions
  Cert.Attention Cert.Softmax
attribute [local instance] Cert.KernelIdeal.Gen.facts

variable (m : (ℓ : Loc nD τ sig) → Buf (Elt Ideal) ℓ) (ρ : Dev nD → PrngReg)

/-- Each windowed block's place in its array: the sample's number for the image's blocks, the whole array otherwise. -/
theorem index_0 (t : Fin cfg0.N) : win0_0.index t = ![t.val, 0, 0] := by revert t; decide +kernel
theorem index_1 (t : Fin cfg0.N) : win0_1.index t = ![t.val, 0, 0] := by revert t; decide +kernel
theorem index_2 (t : Fin cfg0.N) : win0_2.index t = ![0, 0] := by revert t; decide +kernel
theorem index_3 (t : Fin cfg0.N) : win0_3.index t = ![0, 0] := by revert t; decide +kernel
theorem index_4 (t : Fin cfg0.N) : win0_4.index t = ![0, 0] := by revert t; decide +kernel
theorem index_5 (t : Fin cfg0.N) : win0_5.index t = ![t.val, 0, 0] := by revert t; decide +kernel

/-- The sample that grid point `t` works on. -/
def sample (t : Fin cfg0.N) : Fin 2 := ⟨t.val, lt_of_lt_of_eq t.isLt N_0⟩

/-- The block of keys at a grid point. -/
theorem keys_block (c : Dev nD) (t : Fin cfg0.N) (k : Fin 256) (j : Fin 3072) :
    iblk m c 0 t (ix3 0 k j : S1x256x3072.Idx)
      = former (m ((c : Thread nD τ).loc main_arg0)) (sample t) k (keyRow j) (keyCol j) := by
  rw [← KernelOperands.keys_apply]
  blk_ext [iblk, index_0, sample]

/-- The block of queries at a grid point. -/
theorem queries_block (c : Dev nD) (t : Fin cfg0.N) (k : Fin 256) (i : Fin 1024) :
    iblk m c 1 t (ix3 0 k i : S1x256x1024.Idx)
      = latter (m ((c : Thread nD τ).loc main_arg0)) (sample t) k (queryRow i) (queryCol i) := by
  rw [← KernelOperands.queries_apply]
  blk_ext [iblk, index_1, sample]

/-- The block of the query matrix. -/
theorem queryMatrix_block (c : Dev nD) (t : Fin cfg0.N) (d k : Fin 256) :
    iblk m c 2 t (ix2 d k : S256x256.Idx) = m ((c : Thread nD τ).loc main_arg2) (ix2 d k) := by
  rw [← V_main_arg2 m c]
  blk_ext [iblk, index_2]

/-- The block of the key matrix. -/
theorem keyMatrix_block (c : Dev nD) (t : Fin cfg0.N) (d k : Fin 256) :
    iblk m c 3 t (ix2 d k : S256x256.Idx) = m ((c : Thread nD τ).loc main_arg3) (ix2 d k) := by
  rw [← V_main_arg3 m c]
  blk_ext [iblk, index_3]

/-- The block of the scale vector. -/
theorem scale_block (c : Dev nD) (t : Fin cfg0.N) (d : Fin 256) :
    iblk m c 4 t (ix2 d 0 : S256x1.Idx) = m ((c : Thread nD τ).loc main_arg4) (ix1 d) := by
  rw [← KernelOperands.scale_apply m c]
  blk_ext [iblk, index_4]

/-- What every query gathers, in the layout of the grid's output. -/
def gatheredArray (c : Dev nD) : S2x256x1024.Idx → EReal := fun i =>
  gathered (m ((c : Thread nD τ).loc main_arg0)) (m ((c : Thread nD τ).loc main_arg2)) (m ((c : Thread nD τ).loc main_arg3))
    (m ((c : Thread nD τ).loc main_arg4)) (i 0) (i 1) (queryRow (i 2)) (queryCol (i 2))

/-- What a grid point computes is its sample's part of it. -/
theorem point_apply (c : Dev nD) (t : Fin cfg0.N) (k : Fin 256) (i : Fin 1024) :
    k0_pay1 (iblk m c 0 t) (iblk m c 1 t) (iblk m c 2 t) (iblk m c 3 t) (iblk m c 4 t) (ix3 0 k i : S1x256x1024.Idx)
      = gatheredArray m c (ix3 (sample t) k i) := by
  rw [KernelBlock.pay_apply]
  simp only [keys_block, queries_block, queryMatrix_block, keyMatrix_block, scale_block]
  rfl

/-- The grid's output array. -/
theorem output (c : Dev nD) : (dats m 0 c).arrAt 5 cfg0.N = gatheredArray m c := by
  refine (dats m 0 c).arrAt_eq_of_covers 5 _ (by decide +kernel) fun t hf y => ?_
  blk_simp
  rw [after0_5]
  frame_out
  obtain ⟨k, i, rfl⟩ : ∃ (k : Fin 256) (i : Fin 1024), y = (ix3 0 k i : S1x256x1024.Idx) :=
    ⟨y 1, y 2, funext fun a => by
      match a with
      | ⟨0, _⟩ => exact Subsingleton.elim (α := Fin 1) _ _
      | ⟨1, _⟩ => rfl
      | ⟨2, _⟩ => rfl⟩
  refine (point_apply m c t k i).trans (congrArg _ ?_)
  blk_ext [index_5, sample]

end Cert.KernelValue

end
-- ==== Proof.KernelRun.lean ====
/-
  The kernel's run: it ends with the formula of `Attention.kernelResult` in the result array and the arguments as they were.
-/
module

public import proofs.«01_k».proof.Proof.KernelValue

@[expose] public section

set_option maxRecDepth 16384

noncomputable section

namespace Cert.KernelRun

open Idealize.ShloMosaic Idealize.ShloMosaic.TcCoe Idealize.SL.Sem Cert.KernelIdeal Cert.KernelIdeal.Gen Cert.Positions
  Cert.Attention Cert.Softmax
attribute [local instance] Cert.KernelIdeal.Gen.facts

variable (m : (ℓ : Loc nD τ sig) → Buf (Elt Ideal) ℓ) (ρ : Dev nD → PrngReg)

/-- The input with another 256 channels behind it. -/
def joined (x : FVec Ideal S2x512x64x64 .f32) (y : FVec Ideal S2x256x64x64 .f32) : FVec Ideal S2x768x64x64 .f32 :=
  concatenate S2x768x64x64 1 [⟨S2x512x64x64, x⟩, ⟨S2x256x64x64, y⟩] concatenates_S2x512x64x64_S2x256x64x64_S2x768x64x64_d1

/-- The integer zero as a float. -/
theorem zero_word : FloatOps.sitofp (F := Ideal) .f32 (0#32) = (0 : EReal) := by
  rw [show FloatOps.sitofp (F := Ideal) .f32 (0#32) = (((0#32 : BitVec 32).toInt : ℝ) : EReal) from rfl,
    show (0#32 : BitVec 32).toInt = 0 from rfl]
  norm_num

/-- What the operations behind the grid make of buffer contents `W`. -/
theorem tail_apply (W : Valuation τ sig (Elt Ideal)) (b : Fin 2) (ch : Fin 768) (r c : Fin 64) :
    StableHlo.after [hostOps1].flatten W (Proc.devRef .tc main_v0) (ix4 b ch r c : S2x768x64x64.Idx)
      = if h : ch.val < 512 then W (Proc.devRef .tc main_arg0) (ix4 b ⟨ch.val, h⟩ r c : S2x512x64x64.Idx)
        else if h' : InHole r c then W (Proc.devRef .tc main_call0_v13)
          (ix3 b ⟨ch.val - 512, by omega⟩ ⟨(r.val - 16) * 32 + (c.val - 16), by unfold InHole at h'; omega⟩ : S2x256x1024.Idx)
        else (0 : EReal) := by
  after_reads_simp
  change joined (StableHlo.upto [hostOps1].flatten W 4 (Proc.devRef .tc main_arg0))
    (StableHlo.upto [hostOps1].flatten W 4 (Proc.devRef .tc main_call0_v15)) (ix4 b ch r c) = _
  after_reads_simp
  simp -implicitDefEqProofs only [StableHlo.TRef.toBuf, StableHlo.TRef.ofBuf, cast_cast, cast_eq]
  clean_types
  pointwise [joined]
  by_cases h : ch.val < 512
  · refine (dif_pos h).trans (Eq.trans ?_ (dif_pos h).symm)
    rfl
  · refine (dif_neg h).trans (Eq.trans ?_ (dif_neg h).symm)
    by_cases h' : InHole r c
    · have h2 : ch.val - 512 < 256 ∧ (16 ≤ r.val ∧ r.val - 16 < 32) ∧ 16 ≤ c.val ∧ c.val - 16 < 32 := by
        unfold InHole at h'; omega
      refine (dif_pos h2).trans (Eq.trans ?_ (dif_pos h').symm)
      rfl
    · have h2 : ¬ (ch.val - 512 < 256 ∧ (16 ≤ r.val ∧ r.val - 16 < 32) ∧ 16 ≤ c.val ∧ c.val - 16 < 32) := by
        unfold InHole at h'; omega
      refine (dif_neg h2).trans (Eq.trans ?_ (dif_neg h').symm)
      exact zero_word

/-- The formula of the kernel's result over the launch's arguments. -/
def value (c : Dev nD) : S2x768x64x64.Idx → EReal := fun i =>
  kernelResult (m ((c : Thread nD τ).loc main_arg0)) (m ((c : Thread nD τ).loc main_arg2)) (m ((c : Thread nD τ).loc main_arg3))
    (m ((c : Thread nD τ).loc main_arg4)) (i 0) (i 1) (i 2) (i 3)

/-- The result array after the run. -/
theorem final (c : Dev nD) : Pipeline.afterTail₀ cfgs (dats m) 0 (V0 m) [hostOps1] c main_v0 = value m c := by
  unfold Pipeline.afterTail₀
  have h5 := Pipeline.withArrays_arr (cfgs 0).spec launch0.win.arr_inj c (V0 m c) (fun w => (dats m 0 c).arrAt w (cfgs 0).N) 5
  have h0 := Pipeline.withArrays_of_ne (cfgs 0).spec c (V0 m c) (fun w => (dats m 0 c).arrAt w (cfgs 0).N) main_arg0
    (by exact (by decide : ∀ w, Pipeline.arrRef spec0 w ≠ main_arg0))
  generalize Pipeline.withArrays (cfgs 0).spec c (V0 m c) (fun w => (dats m 0 c).arrAt w (cfgs 0).N) = W at h5 h0 ⊢
  have h0 : W (Proc.devRef .tc main_arg0) = m ((c : Thread nD τ).loc main_arg0) := h0.trans (V_main_arg0 m c)
  have h5 : W (Proc.devRef .tc main_call0_v13) = KernelValue.gatheredArray m c := h5.trans (KernelValue.output m c)
  funext i
  obtain ⟨b, ch, r, cc, rfl⟩ : ∃ (b : Fin 2) (ch : Fin 768) (r cc : Fin 64), i = (ix4 b ch r cc : S2x768x64x64.Idx) :=
    ⟨i 0, i 1, i 2, i 3, funext fun a => by
      match a with
      | ⟨0, _⟩ => rfl
      | ⟨1, _⟩ => rfl
      | ⟨2, _⟩ => rfl
      | ⟨3, _⟩ => rfl⟩
  rw [tail_apply, h0, h5]
  show _ = kernelResult _ _ _ _ b ch r cc
  unfold kernelResult
  by_cases h : ch.val < 512
  · refine (dif_pos h).trans (Eq.trans ?_ (dif_pos h).symm)
    rfl
  · refine (dif_neg h).trans (Eq.trans ?_ (dif_neg h).symm)
    by_cases h' : InHole r cc
    · refine (dif_pos h').trans (Eq.trans ?_ (if_pos h').symm)
      have er : queryRow ⟨(r.val - 16) * 32 + (cc.val - 16), by unfold InHole at h'; omega⟩ = r := by
        apply Fin.ext; unfold InHole at h'; show 16 + ((r.val - 16) * 32 + (cc.val - 16)) / 32 = r.val; omega
      have ec : queryCol ⟨(r.val - 16) * 32 + (cc.val - 16), by unfold InHole at h'; omega⟩ = cc := by
        apply Fin.ext; unfold InHole at h'; show 16 + ((r.val - 16) * 32 + (cc.val - 16)) % 32 = cc.val; omega
      show gathered _ _ _ _ b ⟨ch.val - 512, _⟩ (queryRow ⟨_, _⟩) (queryCol ⟨_, _⟩) = _
      rw [er, ec]
    · exact (dif_neg h').trans (if_neg h').symm

/-- The run: the result array at the formula, the arguments unchanged. -/
theorem run : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨((h c).2 main_v0 (Pipeline.mem_restRefs_of main_v0 (by decide) (by decide))).trans (final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.ReferenceTail.lean ====
/-
  What the reference's operations behind the mask's grid leave in the result array, index by index.
-/
module

public import proofs.«01_k».proof.Proof.Gen.ReferenceIdeal.Frame
public import proofs.«01_k».proof.Proof.Attention
public import Idealize.ShloMosaic.Lib.Pipeline.ValueKit
public import Idealize.ShloMosaic.Lib.Pipeline.Value
public import Idealize.ShloMosaic.Lib.Pointwise
public import Idealize.ShloMosaic.Lib.StableHlo.ReadAt

@[expose] public section

set_option maxRecDepth 16384

noncomputable section

namespace Cert.ReferenceTail

open Idealize.ShloMosaic Idealize.ShloMosaic.TcCoe Idealize.SL.Sem Cert.ReferenceIdeal Cert.ReferenceIdeal.Gen Cert.Positions
  Cert.Attention Cert.Softmax
attribute [local instance] Cert.ReferenceIdeal.Gen.facts

/-- Three images of 256 channels behind each other. -/
def joined (x y z : FVec Ideal S2x256x64x64 .f32) : FVec Ideal S2x768x64x64 .f32 :=
  concatenate S2x768x64x64 1 [⟨S2x256x64x64, x⟩, ⟨S2x256x64x64, y⟩, ⟨S2x256x64x64, z⟩]
    concatenates_S2x256x64x64_S2x256x64x64_S2x256x64x64_S2x768x64x64_d1

/-- The scores of every pixel for every pixel. -/
def scores (U V : FVec Ideal S256x256 .f32) (v : FVec Ideal S256 .f32) (keys queries : FVec Ideal S2x256x64x64 .f32) :
    FVec Ideal S2x4096x4096 .f32 :=
  Host.dotGeneral (F := Ideal) (φ₁ := .f32) (φ₂ := .f32) dot_S2x4096x256_S256x2x4096_S2x4096x4096_2_0_1_2_0_1 none
    (transpose S2x4096x256 [0, 2, 1]
      (mulf (F := Ideal) (φ := .f32)
        (transpose S2x256x4096 [1, 0, 2]
          (Host.dotGeneral (F := Ideal) (φ₁ := .f32) (φ₂ := .f32) dot_S256x256_S2x256x4096_S256x2x4096_1_1_0_02_n_n none U
            (shapeCast S2x256x4096 queries shapeCasts_S2x256x64x64_S2x256x4096))
          transposes_S256x2x4096_S2x256x4096_1_0_2)
        (broadcastInDim S2x256x4096 ![0, 1, 2] bcast_S1x256x1_S2x256x4096_0_1_2
          (broadcastInDim S1x256x1 ![1, 2] bcast_S256x1_S1x256x1_1_2
            (broadcastInDim S256x1 ![0] bcast_S256_S256x1_0 v))))
      transposes_S2x256x4096_S2x4096x256_0_2_1)
    (Host.dotGeneral (F := Ideal) (φ₁ := .f32) (φ₂ := .f32) dot_S256x256_S2x256x4096_S256x2x4096_1_1_0_02_n_n none V
      (shapeCast S2x256x4096 keys shapeCasts_S2x256x64x64_S2x256x4096))

/-- The scores with the mask added. -/
def withMask (s : FVec Ideal S2x4096x4096 .f32) (mask : FVec Ideal S1x4096 .f32) : FVec Ideal S2x4096x4096 .f32 :=
  addf s (broadcastInDim S2x4096x4096 ![0, 1, 2] bcast_S1x1x4096_S2x4096x4096_0_1_2
    (broadcastInDim S1x1x4096 ![1, 2] bcast_S1x4096_S1x1x4096_1_2 mask))

/-- Every row's largest score. -/
def rowMax (s : FVec Ideal S2x4096x4096 .f32) : FVec Ideal S2x4096 .f32 :=
  Host.reduce FloatOps.maximumf s (constant S_ .f32 0xFF800000#32) reducesTo_S2x4096x4096_S2x4096_d2 h_S_

/-- The exponentials of the scores less `top`, their row's largest. -/
def weights (s : FVec Ideal S2x4096x4096 .f32) (top : FVec Ideal S2x4096 .f32) : FVec Ideal S2x4096x4096 .f32 :=
  Host.exp (subf s (broadcastInDim S2x4096x4096 ![0, 1, 2] bcast_S2x4096x1_S2x4096x4096_0_1_2
    (broadcastInDim S2x4096x1 ![0, 1] bcast_S2x4096_S2x4096x1_0_1
      (maximumf (broadcastInDim S2x4096 ![] bcast_S_S2x4096 (constant S_ .f32 0xFF800000#32)) top))))

/-- The softmax of a row from its exponentials. -/
def softmax (e : FVec Ideal S2x4096x4096 .f32) : FVec Ideal S2x4096x4096 .f32 :=
  Host.divf e (broadcastInDim S2x4096x4096 ![0, 1, 2] bcast_S2x4096x1_S2x4096x4096_0_1_2
    (broadcastInDim S2x4096x1 ![0, 1] bcast_S2x4096_S2x4096x1_0_1
      (Host.reduceAdd e (constant S_ .f32 0x00000000#32) reducesTo_S2x4096x4096_S2x4096_d2 h_S_)))

/-- The values weighed, times the flags, as an image. -/
def image (p : FVec Ideal S2x4096x4096 .f32) (keys : FVec Ideal S2x256x64x64 .f32) (flag : FVec Ideal S4096 .f32) :
    FVec Ideal S2x256x64x64 .f32 :=
  shapeCast S2x256x64x64
    (mulf (F := Ideal) (φ := .f32)
      (transpose S2x256x4096 [0, 2, 1]
        (Host.dotGeneral (F := Ideal) (φ₁ := .f32) (φ₂ := .f32) dot_S2x4096x4096_S2x4096x256_S2x4096x256_2_1_1_2_0_0 none p
          (transpose S2x4096x256 [0, 2, 1] (shapeCast S2x256x4096 keys shapeCasts_S2x256x64x64_S2x256x4096)
            transposes_S2x256x4096_S2x4096x256_0_2_1))
        transposes_S2x4096x256_S2x256x4096_0_2_1)
      (broadcastInDim S2x256x4096 ![0, 1, 2] bcast_S1x1x4096_S2x256x4096_0_1_2
        (broadcastInDim S1x1x4096 ![1, 2] bcast_S1x4096_S1x1x4096_1_2 (broadcastInDim S1x4096 ![1] bcast_S4096_S1x4096_1 flag))))
    shapeCasts_S2x256x4096_S2x256x64x64

/-- A score at an index. -/
theorem scores_apply (U V : FVec Ideal S256x256 .f32) (v : FVec Ideal S256 .f32) (keys queries : FVec Ideal S2x256x64x64 .f32)
    (b : Fin 2) (p q : Fin 4096) : scores U V v keys queries (ix3 b p q : S2x4096x4096.Idx)
      = ∑ d : Fin 256, ((∑ k : Fin 256, U (ix2 d k) * queries (ix4 b k (row p) (col p))) * v (ix1 d))
          * ∑ k : Fin 256, V (ix2 d k) * keys (ix4 b k (row q) (col q)) := by
  pointwise [scores]
  rfl

/-- A masked score at an index. -/
theorem withMask_apply (s : FVec Ideal S2x4096x4096 .f32) (mask : FVec Ideal S1x4096 .f32) (b : Fin 2) (p q : Fin 4096) :
    withMask s mask (ix3 b p q : S2x4096x4096.Idx) = s (ix3 b p q) + mask (ix2 0 q) := by
  pointwise [withMask]

/-- A row's largest score at an index. -/
theorem rowMax_apply (s : FVec Ideal S2x4096x4096 .f32) (b : Fin 2) (p : Fin 4096) :
    rowMax s (ix2 b p : S2x4096.Idx) = largest fun q : Fin 4096 => s (ix3 b p q) := by
  unfold largest rowMax
  rw [← ofBits_bot]
  simp only [pointwise]

/-- An exponential at an index. -/
theorem weights_apply (s : FVec Ideal S2x4096x4096 .f32) (top : FVec Ideal S2x4096 .f32) (b : Fin 2) (p q : Fin 4096) :
    weights s top (ix3 b p q : S2x4096x4096.Idx) = Ideal.exp (s (ix3 b p q) - max ⊥ (top (ix2 b p))) := by
  pointwise [weights]
  rw [ofBits_bot]

/-- A softmax at an index. -/
theorem softmax_apply (e : FVec Ideal S2x4096x4096 .f32) (b : Fin 2) (p q : Fin 4096) :
    softmax e (ix3 b p q : S2x4096x4096.Idx) = Ideal.div (e (ix3 b p q)) (∑ q : Fin 4096, e (ix3 b p q)) := by
  pointwise [softmax]

/-- A pixel of the gathered image. -/
theorem image_apply (p : FVec Ideal S2x4096x4096 .f32) (keys : FVec Ideal S2x256x64x64 .f32) (flag : FVec Ideal S4096 .f32)
    (b : Fin 2) (k : Fin 256) (r c : Fin 64) : image p keys flag (ix4 b k r c : S2x256x64x64.Idx)
      = (∑ q : Fin 4096, p (ix3 b (flat r c) q) * keys (ix4 b k (row q) (col q))) * flag (ix1 (flat r c)) := by
  pointwise [image]
  rfl

/-- The masked scores as the operations make them of buffer contents `W`. -/
def maskedScores (W : Valuation τ sig (Elt Ideal)) : FVec Ideal S2x4096x4096 .f32 :=
  withMask (scores (W (Proc.devRef .tc main_arg2)) (W (Proc.devRef .tc main_arg3)) (W (Proc.devRef .tc main_arg4))
    (W (Proc.devRef .tc main_v0)) (W (Proc.devRef .tc main_v1))) (W (Proc.devRef .tc main_v4))

/-- The gathered image as the operations make it. -/
theorem read_image (W : Valuation τ sig (Elt Ideal)) :
    StableHlo.upto [hostOps1].flatten W 36 (Proc.devRef .tc main_v37)
      = image (softmax (weights (maskedScores W) (rowMax (maskedScores W)))) (W (Proc.devRef .tc main_v0))
          (W (Proc.devRef .tc main_v2)) := by
  after_reads_simp
  rfl

/-- A channel of three images behind each other. -/
theorem joined_apply (x y z : FVec Ideal S2x256x64x64 .f32) (b : Fin 2) (ch : Fin 768) (r c : Fin 64) :
    joined x y z (ix4 b ch r c : S2x768x64x64.Idx)
      = if h : ch.val < 256 then x (ix4 b ⟨ch.val, h⟩ r c)
        else if h' : ch.val < 512 then y (ix4 b ⟨ch.val - 256, by omega⟩ r c)
        else z (ix4 b ⟨ch.val - 512, by omega⟩ r c) := by
  pointwise [joined]
  by_cases h : ch.val < 256
  · refine (dif_pos h).trans (Eq.trans ?_ (dif_pos h).symm)
    rfl
  · refine (dif_neg h).trans (Eq.trans ?_ (dif_neg h).symm)
    by_cases h' : ch.val < 512
    · refine (dif_pos (by omega)).trans (Eq.trans ?_ (dif_pos h').symm)
      rfl
    · refine (dif_neg (by omega)).trans (Eq.trans ?_ (dif_neg h').symm)
      exact congrArg (fun k : Fin 256 => z (ix4 b k r c)) (Fin.ext (Nat.sub_sub _ _ _))

/-- The result array is the two halves of the input and the gathered image behind each other. -/
theorem read_result (W : Valuation τ sig (Elt Ideal)) :
    StableHlo.after [hostOps1].flatten W (Proc.devRef .tc main_v38)
      = joined (W (Proc.devRef .tc main_v0)) (W (Proc.devRef .tc main_v1))
          (image (softmax (weights (maskedScores W) (rowMax (maskedScores W)))) (W (Proc.devRef .tc main_v0))
            (W (Proc.devRef .tc main_v2))) := by
  after_reads_simp
  exact congrArg (joined (W (Proc.devRef .tc main_v0)) (W (Proc.devRef .tc main_v1))) (read_image W)

end Cert.ReferenceTail

end
-- ==== Proof.ReferenceRun.lean ====
/-
  The reference's run: it ends with the formula of `Attention.referenceResult` in the result array and the arguments as
  they were.
-/
module

public import proofs.«01_k».proof.Proof.ReferenceTail

@[expose] public section

set_option maxRecDepth 16384

noncomputable section

namespace Cert.ReferenceRun

open Idealize.ShloMosaic Idealize.ShloMosaic.TcCoe Idealize.SL.Sem Cert.ReferenceIdeal Cert.ReferenceIdeal.Gen Cert.Positions
  Cert.Attention Cert.Softmax Cert.ReferenceTail
attribute [local instance] Cert.ReferenceIdeal.Gen.facts

variable (m : (ℓ : Loc nD τ sig) → Buf (Elt Ideal) ℓ) (ρ : Dev nD → PrngReg)

/-- The keys' half of the input as cut out before the grid. -/
theorem keys_apply (c : Dev nD) (b : Fin 2) (k : Fin 256) (r cc : Fin 64) :
    V m c main_v0 (ix4 b k r cc : S2x256x64x64.Idx) = former (m ((c : Thread nD τ).loc main_arg0)) b k r cc := by
  unfold former
  show V0 m c (Proc.devRef .tc main_v0) _ = _
  after_reads_simp
  pointwise []

/-- The queries' half of the input as cut out before the grid. -/
theorem queries_apply (c : Dev nD) (b : Fin 2) (k : Fin 256) (r cc : Fin 64) :
    V m c main_v1 (ix4 b k r cc : S2x256x64x64.Idx) = latter (m ((c : Thread nD τ).loc main_arg0)) b k r cc := by
  unfold latter
  show V0 m c (Proc.devRef .tc main_v1) _ = _
  after_reads_simp
  pointwise []

/-- The flags as floats. -/
theorem flags_apply (c : Dev nD) (q : Fin 4096) :
    V m c main_v2 (ix1 q : S4096.Idx) = (((m ((c : Thread nD τ).loc main_arg5) (ix1 q : S4096.Idx)).toInt : ℝ) : EReal) := by
  show V0 m c (Proc.devRef .tc main_v2) _ = _
  after_reads_simp
  pointwise []
  rfl

/-- The flags as floats, a row. -/
theorem flagRow_apply (c : Dev nD) (q : Fin 4096) :
    V m c main_v3 (ix2 0 q : S1x4096.Idx) = (((m ((c : Thread nD τ).loc main_arg5) (ix1 q : S4096.Idx)).toInt : ℝ) : EReal) := by
  show V0 m c (Proc.devRef .tc main_v3) _ = _
  after_reads_simp
  pointwise []
  rfl

/-- The named constant is minus infinity. -/
theorem mask_named : Named.named (F := Ideal) Cert.ReferenceIdeal.κ "mask" (φ := .f32) 0xCE6E6B28#32 = (⊥ : EReal) := by
  have hκ : Cert.ReferenceIdeal.κ "mask" = some ⊥ := rfl
  show (Cert.ReferenceIdeal.κ "mask").getD _ = ⊥
  rw [hκ]
  rfl

/-- What the mask's body stores. -/
theorem pay_apply (v : Vec Ideal S1x4096 .f32) (q : Fin 4096) : k0_pay1 v (ix2 0 q : S1x4096.Idx) = ⊥ * v (ix2 0 q) := by
  pointwise [k0_pay1]
  rw [mask_named]

/-- The one block of each window is the whole array. -/
theorem index_0 (t : Fin cfg0.N) : win0_0.index t = ![0, 0] := by revert t; decide +kernel
theorem index_1 (t : Fin cfg0.N) : win0_1.index t = ![0, 0] := by revert t; decide +kernel

/-- The block the mask's body reads. -/
theorem flag_block (c : Dev nD) (t : Fin cfg0.N) (q : Fin 4096) :
    iblk m c 0 t (ix2 0 q : S1x4096.Idx) = (((m ((c : Thread nD τ).loc main_arg5) (ix1 q : S4096.Idx)).toInt : ℝ) : EReal) := by
  rw [← flagRow_apply]
  blk_ext [iblk, index_0]

/-- The mask, in the layout of the grid's output. -/
def maskArray (c : Dev nD) : S1x4096.Idx → EReal := fun i => masked (m ((c : Thread nD τ).loc main_arg5)) (i 1)

/-- The mask's array after its grid. -/
theorem output (c : Dev nD) : (dats m 0 c).arrAt 1 cfg0.N = maskArray m c := by
  refine (dats m 0 c).arrAt_eq_of_covers 1 _ (by decide +kernel) fun t hf y => ?_
  blk_simp
  rw [after0_1]
  frame_out
  obtain ⟨q, rfl⟩ : ∃ q : Fin 4096, y = (ix2 0 q : S1x4096.Idx) :=
    ⟨y 1, funext fun a => by
      match a with
      | ⟨0, _⟩ => exact Subsingleton.elim (α := Fin 1) _ _
      | ⟨1, _⟩ => rfl⟩
  refine ((pay_apply _ q).trans (congrArg (fun e : EReal => ⊥ * e) (flag_block m c t q))).trans ?_
  show maskArray m c (ix2 0 q) = _
  refine congrArg _ ?_
  blk_ext [index_1]

/-- The formula of the reference's result over the launch's arguments. -/
def value (c : Dev nD) : S2x768x64x64.Idx → EReal := fun i =>
  referenceResult (m ((c : Thread nD τ).loc main_arg0)) (m ((c : Thread nD τ).loc main_arg2)) (m ((c : Thread nD τ).loc main_arg3))
    (m ((c : Thread nD τ).loc main_arg4)) (m ((c : Thread nD τ).loc main_arg5)) (i 0) (i 1) (i 2) (i 3)

/-- The masked scores on the buffers that the grid leaves. -/
theorem maskedScores_apply (W : Valuation τ sig (Elt Ideal)) (c : Dev nD)
    (h0 : W (Proc.devRef .tc main_v0) = V m c main_v0) (h1 : W (Proc.devRef .tc main_v1) = V m c main_v1)
    (h2 : W (Proc.devRef .tc main_arg2) = m ((c : Thread nD τ).loc main_arg2))
    (h3 : W (Proc.devRef .tc main_arg3) = m ((c : Thread nD τ).loc main_arg3))
    (h4 : W (Proc.devRef .tc main_arg4) = m ((c : Thread nD τ).loc main_arg4))
    (hm : W (Proc.devRef .tc main_v4) = maskArray m c) (b : Fin 2) (p q : Fin 4096) :
    maskedScores W (ix3 b p q : S2x4096x4096.Idx)
      = score (m ((c : Thread nD τ).loc main_arg0)) (m ((c : Thread nD τ).loc main_arg2)) (m ((c : Thread nD τ).loc main_arg3))
          (m ((c : Thread nD τ).loc main_arg4)) b (row p) (col p) (row q) (col q)
        + masked (m ((c : Thread nD τ).loc main_arg5)) q := by
  unfold maskedScores
  rw [withMask_apply, scores_apply, h0, h1, h2, h3, h4, hm]
  have hk := keys_apply m c
  have hq := queries_apply m c
  generalize V m c main_v0 = K at hk ⊢
  generalize V m c main_v1 = Q at hq ⊢
  simp only [hk, hq]
  rfl

/-- The gathered image on the buffers that the grid leaves. -/
theorem image_value (W : Valuation τ sig (Elt Ideal)) (c : Dev nD)
    (h0 : W (Proc.devRef .tc main_v0) = V m c main_v0) (h1 : W (Proc.devRef .tc main_v1) = V m c main_v1)
    (h2 : W (Proc.devRef .tc main_arg2) = m ((c : Thread nD τ).loc main_arg2))
    (h3 : W (Proc.devRef .tc main_arg3) = m ((c : Thread nD τ).loc main_arg3))
    (h4 : W (Proc.devRef .tc main_arg4) = m ((c : Thread nD τ).loc main_arg4))
    (hf : W (Proc.devRef .tc main_v2) = V m c main_v2)
    (hm : W (Proc.devRef .tc main_v4) = maskArray m c) (b : Fin 2) (k : Fin 256) (r cc : Fin 64) :
    image (softmax (weights (maskedScores W) (rowMax (maskedScores W)))) (W (Proc.devRef .tc main_v0))
        (W (Proc.devRef .tc main_v2)) (ix4 b k r cc : S2x256x64x64.Idx)
      = gatheredMasked (m ((c : Thread nD τ).loc main_arg0)) (m ((c : Thread nD τ).loc main_arg2))
          (m ((c : Thread nD τ).loc main_arg3)) (m ((c : Thread nD τ).loc main_arg4)) (m ((c : Thread nD τ).loc main_arg5))
          b k r cc
        * (((m ((c : Thread nD τ).loc main_arg5) (ix1 (flat r cc) : S4096.Idx)).toInt : ℝ) : EReal) := by
  have hs := maskedScores_apply m W c h0 h1 h2 h3 h4 hm
  rw [image_apply, h0, hf, flags_apply]
  have hk := keys_apply m c
  generalize V m c main_v0 = K at hk ⊢
  simp only [softmax_apply, weights_apply, rowMax_apply, hs, hk, row_flat, col_flat]
  rfl

/-- The result array after the run. -/
theorem final (c : Dev nD) : Pipeline.afterTail₀ cfgs (dats m) 0 (V0 m) [hostOps1] c main_v38 = value m c := by
  unfold Pipeline.afterTail₀
  have hm := Pipeline.withArrays_arr (cfgs 0).spec launch0.win.arr_inj c (V0 m c) (fun w => (dats m 0 c).arrAt w (cfgs 0).N) 1
  have ho := fun b hb => Pipeline.withArrays_of_ne (cfgs 0).spec c (V0 m c) (fun w => (dats m 0 c).arrAt w (cfgs 0).N) b hb
  generalize Pipeline.withArrays (cfgs 0).spec c (V0 m c) (fun w => (dats m 0 c).arrAt w (cfgs 0).N) = W at hm ho ⊢
  have hm : W (Proc.devRef .tc main_v4) = maskArray m c := hm.trans (output m c)
  have h0 : W (Proc.devRef .tc main_v0) = V m c main_v0 := ho main_v0 (by exact (by decide : ∀ w, Pipeline.arrRef spec0 w ≠ main_v0))
  have h1 : W (Proc.devRef .tc main_v1) = V m c main_v1 := ho main_v1 (by exact (by decide : ∀ w, Pipeline.arrRef spec0 w ≠ main_v1))
  have hf : W (Proc.devRef .tc main_v2) = V m c main_v2 := ho main_v2 (by exact (by decide : ∀ w, Pipeline.arrRef spec0 w ≠ main_v2))
  have h2 : W (Proc.devRef .tc main_arg2) = m ((c : Thread nD τ).loc main_arg2) :=
    (ho main_arg2 (by exact (by decide : ∀ w, Pipeline.arrRef spec0 w ≠ main_arg2))).trans (V_main_arg2 m c)
  have h3 : W (Proc.devRef .tc main_arg3) = m ((c : Thread nD τ).loc main_arg3) :=
    (ho main_arg3 (by exact (by decide : ∀ w, Pipeline.arrRef spec0 w ≠ main_arg3))).trans (V_main_arg3 m c)
  have h4 : W (Proc.devRef .tc main_arg4) = m ((c : Thread nD τ).loc main_arg4) :=
    (ho main_arg4 (by exact (by decide : ∀ w, Pipeline.arrRef spec0 w ≠ main_arg4))).trans (V_main_arg4 m c)
  have hi := image_value m W c h0 h1 h2 h3 h4 hf hm
  refine (read_result W).trans ?_
  generalize image (softmax (weights (maskedScores W) (rowMax (maskedScores W)))) (W (Proc.devRef .tc main_v0))
    (W (Proc.devRef .tc main_v2)) = G at hi ⊢
  rw [h0, h1]
  funext i
  obtain ⟨b, ch, r, cc, rfl⟩ : ∃ (b : Fin 2) (ch : Fin 768) (r cc : Fin 64), i = (ix4 b ch r cc : S2x768x64x64.Idx) :=
    ⟨i 0, i 1, i 2, i 3, funext fun a => by
      match a with
      | ⟨0, _⟩ => rfl
      | ⟨1, _⟩ => rfl
      | ⟨2, _⟩ => rfl
      | ⟨3, _⟩ => rfl⟩
  rw [joined_apply]
  show _ = referenceResult _ _ _ _ _ b ch r cc
  unfold referenceResult
  by_cases h : ch.val < 512
  · refine Eq.trans ?_ (dif_pos h).symm
    by_cases h' : ch.val < 256
    · refine (dif_pos h').trans ((keys_apply m c _ _ _ _).trans ?_)
      rfl
    · refine (dif_neg h').trans ((dif_pos h).trans ((queries_apply m c _ _ _ _).trans ?_))
      exact congrArg (fun k : Fin 512 => m ((c : Thread nD τ).loc main_arg0) (ix4 b k r cc : S2x512x64x64.Idx))
        (Fin.ext (by show 256 + (ch.val - 256) = ch.val; omega))
  · refine (dif_neg (by omega)).trans ((dif_neg h).trans (Eq.trans ?_ (dif_neg h).symm))
    exact hi _ _ _ _

/-- The run: the result array at the formula, the arguments unchanged. -/
theorem run : θ_run defs (onTc (τ := τ) (main (F := Ideal))) ⟨m, fun _ => 0, ρ⟩ fun r => ∀ c : Dev nD,
      r.2.mem ((c : Thread nD τ).loc main_v38) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨((h c).2 main_v38 (Pipeline.mem_restRefs_of main_v38 (by decide) (by decide))).trans (final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.ReferenceRun

end
-- ==== Proof.Equation.lean ====
/-
  The kernel's formula is the reference's, when the flags mark the hole and the image and the parameters are real numbers.
-/
module

public import proofs.«01_k».proof.Proof.Attention

@[expose] public section

noncomputable section

namespace Cert.Attention

open Idealize.ShloMosaic Cert.Positions Cert.Softmax

/-- An extended real that is a real number. -/
def IsReal (e : EReal) : Prop := ∃ a : ℝ, e = (a : EReal)

/-- A product of real numbers is real. -/
theorem IsReal.mul {a b : EReal} (ha : IsReal a) (hb : IsReal b) : IsReal (a * b) := by
  obtain ⟨a, rfl⟩ := ha; obtain ⟨b, rfl⟩ := hb; exact ⟨a * b, (EReal.coe_mul a b).symm⟩

/-- A finite sum of real numbers is real. -/
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

variable {x : Image.Idx → EReal} {U V : Matrix.Idx → EReal} {v : Scale.Idx → EReal} {flag : Flags.Idx → BitVec 32}

/-- Every score is a real number. -/
theorem score_real (hx : ∀ i, IsReal (x i)) (hU : ∀ i, IsReal (U i)) (hV : ∀ i, IsReal (V i)) (hv : ∀ i, IsReal (v i))
    (b : Fin 2) (r c r' c' : Fin 64) : IsReal (score x U V v b r c r' c') :=
  IsReal.sum _ _ fun _ => ((IsReal.sum _ _ fun _ => (hU _).mul (hx _)).mul (hv _)).mul (IsReal.sum _ _ fun _ => (hV _).mul (hx _))

/-- The flags mark the hole: one in it, zero outside. -/
def Marks (flag : Flags.Idx → BitVec 32) : Prop :=
  ∀ q : Fin 4096, flag (ix1 q) = if InHole (row q) (col q) then 1#32 else 0#32

/-- In the hole the mask is `⊥`. -/
theorem masked_hole (hf : Marks flag) (q : Fin 4096) (h : InHole (row q) (col q)) : masked flag q = ⊥ := by
  rw [masked, hf q, if_pos h]
  exact EReal.bot_mul_coe_of_pos (by norm_num)

/-- Outside the hole it is zero. -/
theorem masked_known (hf : Marks flag) (q : Fin 4096) (h : ¬ InHole (row q) (col q)) : masked flag q = 0 := by
  rw [masked, hf q, if_neg h]
  simp

/-- What a query gathers from the known pixels is what it gathers from every pixel with the hole masked. -/
theorem gathered_eq (hx : ∀ i, IsReal (x i)) (hU : ∀ i, IsReal (U i)) (hV : ∀ i, IsReal (V i)) (hv : ∀ i, IsReal (v i))
    (hf : Marks flag) (b : Fin 2) (k : Fin 256) (r c : Fin 64) :
    gathered x U V v b k r c = gatheredMasked x U V v flag b k r c := by
  choose s hs using fun j : Fin 3072 => score_real hx hU hV hv b r c (keyRow j) (keyCol j)
  choose f hF using fun j : Fin 3072 => hx (ix4 b ⟨k.val, by omega⟩ (keyRow j) (keyCol j))
  have hT : ∀ j, score x U V v b r c (row (keyPos j)) (col (keyPos j)) + masked flag (keyPos j) = (s j : EReal) := fun j => by
    have hk := keyPos_known j
    rw [masked_known hf _ (by rw [row_keyPos, col_keyPos]; exact hk), add_zero, row_keyPos, col_keyPos, hs]
  have key := overKnown_eq_overAll keyPos keyPos_injective
    (fun q : Fin 4096 => score x U V v b r c (row q) (col q) + masked flag q) (fun q => former x b k (row q) (col q)) s f hT
    (fun j => by rw [row_keyPos, col_keyPos]; exact hF j)
    (fun q hq => by rw [masked_hole hf q (inHole_of_not_mem q hq), EReal.add_bot])
  unfold gathered gatheredMasked
  rw [← key]
  refine congrArg₂ overKnown (funext fun j => ?_) (funext fun j => ?_)
  · show _ = score x U V v b r c (row (keyPos j)) (col (keyPos j)) + masked flag (keyPos j)
    rw [hT, hs]
  · show _ = former x b k (row (keyPos j)) (col (keyPos j))
    rw [row_keyPos, col_keyPos]

/-- The two results agree at every element. -/
theorem kernelResult_eq_referenceResult (hx : ∀ i, IsReal (x i)) (hU : ∀ i, IsReal (U i)) (hV : ∀ i, IsReal (V i))
    (hv : ∀ i, IsReal (v i)) (hf : Marks flag) (b : Fin 2) (ch : Fin 768) (r c : Fin 64) :
    kernelResult x U V v b ch r c = referenceResult x U V v flag b ch r c := by
  unfold kernelResult referenceResult
  by_cases h : ch.val < 512
  · rw [dif_pos h, dif_pos h]
  · rw [dif_neg h, dif_neg h, hf (flat r c), row_flat, col_flat]
    by_cases hh : InHole r c
    · rw [if_pos hh, if_pos hh, gathered_eq hx hU hV hv hf]
      simp
    · rw [if_neg hh, if_neg hh]
      simp

end Cert.Attention

end
-- ==== Proof.Hole.lean ====
/-
  What the precondition says: the flags mark the hole, and the arrays that enter the attention are real.
-/
module

public import proofs.«01_k».proof.Proof.Gen.Pre_centre_hole
public import proofs.«01_k».proof.Proof.Equation
public import Idealize.ShloMosaic.Lib.Pointwise
public import Idealize.ShloMosaic.Lib.ReduceAll

@[expose] public section

set_option maxRecDepth 16384

noncomputable section

namespace Cert.Hole

open Idealize.ShloMosaic Cert.Pre_centre_hole Cert.Positions Cert.Attention Cert.Softmax
attribute [local instance] Cert.Pre_centre_hole.Gen.facts

/-- A number whose absolute value is below plus infinity is real. -/
theorem isReal_of_abs_lt (e : EReal) (h : max e (-e) < ⊤) : IsReal e := by
  induction e with
  | bot => simp at h
  | coe a => exact ⟨a, rfl⟩
  | top => simp at h

/-- The comparison of an absolute value with plus infinity. -/
theorem isReal_of_compare (e : EReal)
    (h : FloatOps.cmpf (F := Ideal) (φ := .f32) .olt (FloatOps.absf (F := Ideal) (φ := .f32) e) (Ideal.ofBits .f32 0x7F800000#32) = 1#1) :
    IsReal e := by
  rw [ofBits_top] at h
  have h' : BitVec.ofBool (decide (max e (-e) < ⊤)) = 1#1 := h
  by_cases hlt : max e (-e) < ⊤
  · exact isReal_of_abs_lt e hlt
  · rw [decide_eq_false hlt] at h'
    exact absurd h' (by decide)

/-- The marks of the centre square, as the predicate makes them. -/
def square : IVec S64x64 32 :=
  extui 32 (andi (andi (andi
      (cmpi .sge (iotaInDim S64x64 32 0) (broadcastInDim S64x64 ![] Facts.bcast_S_S64x64 (constantI S_ 32 16#32)))
      (cmpi .slt (iotaInDim S64x64 32 0) (broadcastInDim S64x64 ![] Facts.bcast_S_S64x64 (constantI S_ 32 48#32))))
      (cmpi .sge (iotaInDim S64x64 32 1) (broadcastInDim S64x64 ![] Facts.bcast_S_S64x64 (constantI S_ 32 16#32))))
      (cmpi .slt (iotaInDim S64x64 32 1) (broadcastInDim S64x64 ![] Facts.bcast_S_S64x64 (constantI S_ 32 48#32)))) Facts.natLt_1_32

/-- A pixel's mark. -/
theorem square_apply (r c : Fin 64) : square (ix2 r c : S64x64.Idx) = if InHole r c then 1#32 else 0#32 := by
  revert r c
  decide +kernel

/-- The precondition's parts. -/
theorem parts (x : FVec Ideal S2x512x64x64 .f32) (y : FVec Ideal S64x64 .f32) (U V : FVec Ideal S256x256 .f32)
    (v : FVec Ideal S256 .f32) (flag : IVec S4096 32) (h : fn (F := Ideal) x y U V v flag = fun _ => 1#1) :
    (∀ i, IsReal (x i)) ∧ (∀ i, IsReal (U i)) ∧ (∀ i, IsReal (V i)) ∧ (∀ i, IsReal (v i)) ∧ Marks flag := by
  have h0 := congrFun h (Shape.Idx.first Facts.h_S_)
  obtain ⟨h1, hv⟩ := IntOp.andi_eq_one.1 h0
  obtain ⟨h2, hV⟩ := IntOp.andi_eq_one.1 h1
  obtain ⟨h3, hU⟩ := IntOp.andi_eq_one.1 h2
  obtain ⟨hf, hx⟩ := IntOp.andi_eq_one.1 h3
  refine ⟨fun i => isReal_of_compare _ (Host.reduce_andi_all _ _ _ _ _ hx i),
    fun i => isReal_of_compare _ (Host.reduce_andi_all _ _ _ _ _ hU i),
    fun i => isReal_of_compare _ (Host.reduce_andi_all _ _ _ _ _ hV i),
    fun i => isReal_of_compare _ (Host.reduce_andi_all _ _ _ _ _ hv i), fun q => ?_⟩
  have hq := Host.reduce_andi_all _ _ _ _ _ hf (ix2 (row q) (col q))
  have e : shapeCast S64x64 flag Facts.shapeCasts_S4096_S64x64 (ix2 (row q) (col q)) = square (ix2 (row q) (col q)) :=
    IntOp.cmpi_eq.1 hq
  rw [square_apply] at e
  rw [← e]
  pointwise []
  refine congrArg (fun p : Fin 4096 => flag (ix1 p)) (Fin.ext ?_)
  show q.val = q.val / 64 * 64 + q.val % 64
  omega

end Cert.Hole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_centre_hole
public import proofs.«01_k».proof.Proof.KernelRun
public import proofs.«01_k».proof.Proof.ReferenceRun
public import proofs.«01_k».proof.Proof.Hole
public import Idealize.ShloMosaic.Adequacy
public import Idealize.ShloMosaic.Init

@[expose] public section

noncomputable section

namespace Cert.Proof

open Idealize.ShloMosaic Idealize.SL.Sem Cert.Kernel

/-- Where the launches agree and the precondition holds, the two formulas are one array. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_KernelIdeal_centre_hole (hPre_centre_hole := Cert.Pre_centre_hole.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceRun.value m' c = Cert.KernelRun.value m c := by
  obtain ⟨hx, hU, hV, hv, hf⟩ := Cert.Hole.parts _ _ _ _ _ _ (hp c)
  funext i
  unfold Cert.ReferenceRun.value Cert.KernelRun.value
  rw [h0, h2, h3, h4, h5]
  exact (Cert.Attention.kernelResult_eq_referenceResult hx hU hV hv hf (i 0) (i 1) (i 2) (i 3)).symm

/-- The value claim: under the precondition both programs end with the same result array, their arguments unchanged. -/
theorem algebraic : Cert.algebraic_KernelIdeal_ReferenceIdeal_pre_centre_hole (hKernelIdeal := Cert.KernelIdeal.Gen.facts)
    (hReferenceIdeal := Cert.ReferenceIdeal.Gen.facts) (hPre_centre_hole := Cert.Pre_centre_hole.Gen.facts) := by
  intro m g m' g' hp ha
  refine ⟨fun c => Cert.KernelRun.value m c, Cert.KernelRun.run m g, ?_⟩
  refine (θ_run _ _ _).mono (fun r h c => ⟨(h c).1.trans ?_, (h c).2⟩) (Cert.ReferenceRun.run m' g')
  obtain ⟨h0, -, h2, h3, h4, h5⟩ := ha c
  exact values_agree m m' c hp h0 h2 h3 h4 h5

/-- Everything that is claimed. -/
theorem claim : Cert.Claim :=
  ⟨Cert.Kernel.Gen.facts, Cert.KernelIdeal.Gen.facts, Cert.ReferenceIdeal.Gen.facts, Cert.Reference.Gen.facts,
    Cert.Pre_centre_hole.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, fun m ρ _ => Cert.Reference.Gen.frame m ρ,
    trivial, IdealRules.named_const.statement Cert.ReferenceIdeal.κ "mask" .f32 0xCE6E6B28#32 ⊥ rfl, algebraic⟩

end Cert.Proof

end
